-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512x1 : Shape := ⟨4, ![1, 512, 512, 1]⟩
abbrev S2x260100 : Shape := ⟨2, ![2, 260100]⟩
abbrev S260100x2 : Shape := ⟨2, ![260100, 2]⟩

abbrev nBuf : Space → Nat
  | .hbm => 3
  | .vmem => 1
  | .smem => 0
  | _ => 0

abbrev bufTy : (tb : Table) → Fin (tcTables nBuf tb) → BufTy
  | .hbm, ⟨0, _⟩ => ⟨S1x512x512x1, .f32⟩
  | .hbm, ⟨1, _⟩ => ⟨S2x260100, .i32⟩
  | .hbm, ⟨2, _⟩ => ⟨S260100x2, .i32⟩
  | .local _ .vmem, ⟨0, _⟩ => ⟨S2x260100, .i32⟩
  | _, _ => ⟨S1x512x512x1, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S2x260100 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x512x512x1 : Shape := ⟨4, ![1, 512, 512, 1]⟩
abbrev S512x512 : Shape := ⟨2, ![512, 512]⟩
abbrev S510x510 : Shape := ⟨2, ![510, 510]⟩
abbrev S510x510x1 : Shape := ⟨3, ![510, 510, 1]⟩
abbrev S510x510x9 : Shape := ⟨3, ![510, 510, 9]⟩
abbrev S1x510x510x9 : Shape := ⟨4, ![1, 510, 510, 9]⟩
abbrev S1x510x510x5 : Shape := ⟨4, ![1, 510, 510, 5]⟩
abbrev S1x510x510x1 : Shape := ⟨4, ![1, 510, 510, 1]⟩
abbrev S1x510x510 : Shape := ⟨3, ![1, 510, 510]⟩
abbrev S260100 : Shape := ⟨1, ![260100]⟩
abbrev S262144 : Shape := ⟨1, ![262144]⟩
abbrev S_ : Shape := ⟨0, ![]⟩
abbrev S260100x1 : Shape := ⟨2, ![260100, 1]⟩
abbrev S260100x2 : Shape := ⟨2, ![260100, 2]⟩

abbrev nBuf : Space → Nat
  | .hbm => 153
  | .vmem => 0
  | .smem => 0
  | _ => 0

abbrev hbmTy0_0 (i : Nat) : BufTy := match i % 128 with
  | 0 => ⟨S1x512x512x1, .f32⟩
  | 1 => ⟨S512x512, .f32⟩
  | 2 => ⟨S510x510, .f32⟩
  | 3 => ⟨S510x510, .f32⟩
  | 4 => ⟨S510x510, .f32⟩
  | 5 => ⟨S510x510, .f32⟩
  | 6 => ⟨S510x510, .f32⟩
  | 7 => ⟨S510x510, .f32⟩
  | 8 => ⟨S510x510, .f32⟩
  | 9 => ⟨S510x510, .f32⟩
  | 10 => ⟨S510x510, .f32⟩
  | 11 => ⟨S510x510x1, .f32⟩
  | 12 => ⟨S510x510x1, .f32⟩
  | 13 => ⟨S510x510x1, .f32⟩
  | 14 => ⟨S510x510x1, .f32⟩
  | 15 => ⟨S510x510x1, .f32⟩
  | 16 => ⟨S510x510x1, .f32⟩
  | 17 => ⟨S510x510x1, .f32⟩
  | 18 => ⟨S510x510x1, .f32⟩
  | 19 => ⟨S510x510x1, .f32⟩
  | 20 => ⟨S510x510x9, .f32⟩
  | 21 => ⟨S1x510x510x9, .f32⟩
  | 22 => ⟨S1x510x510x5, .f32⟩
  | 23 => ⟨S1x510x510x5, .i32⟩
  | 24 => ⟨S1x510x510x1, .f32⟩
  | 25 => ⟨S1x510x510, .f32⟩
  | 26 => ⟨S260100, .f32⟩
  | 27 => ⟨S262144, .i32⟩
  | 28 => ⟨S_, .i32⟩
  | 29 => ⟨S262144, .i32⟩
  | 30 => ⟨S262144, .i32⟩
  | 31 => ⟨S512x512, .i32⟩
  | 32 => ⟨S510x510, .i32⟩
  | 33 => ⟨S260100, .i32⟩
  | 34 => ⟨S_, .i32⟩
  | 35 => ⟨S_, .i32⟩
  | 36 => ⟨S260100, .i32⟩
  | 37 => ⟨S260100, .i32⟩
  | 38 => ⟨S260100, .i32⟩
  | 39 => ⟨S_, .i32⟩
  | 40 => ⟨S260100, .i32⟩
  | 41 => ⟨S260100, .i1⟩
  | 42 => ⟨S260100, .i32⟩
  | 43 => ⟨S260100, .i32⟩
  | 44 => ⟨S_, .i32⟩
  | 45 => ⟨S260100, .i32⟩
  | 46 => ⟨S260100, .i1⟩
  | 47 => ⟨S260100, .i1⟩
  | 48 => ⟨S_, .i32⟩
  | 49 => ⟨S260100, .i32⟩
  | 50 => ⟨S260100, .i32⟩
  | 51 => ⟨S260100, .i32⟩
  | 52 => ⟨S_, .i32⟩
  | 53 => ⟨S_, .i1⟩
  | 54 => ⟨S_, .i32⟩
  | 55 => ⟨S_, .i32⟩
  | 56 => ⟨S260100, .i32⟩
  | 57 => ⟨S260100, .i32⟩
  | 58 => ⟨S_, .i32⟩
  | 59 => ⟨S260100, .i32⟩
  | 60 => ⟨S260100, .i1⟩
  | 61 => ⟨S_, .i32⟩
  | 62 => ⟨S260100, .i32⟩
  | 63 => ⟨S260100, .i1⟩
  | 64 => ⟨S_, .i32⟩
  | 65 => ⟨S_, .i1⟩
  | 66 => ⟨S260100, .i1⟩
  | 67 => ⟨S260100, .i1⟩
  | 68 => ⟨S260100, .i1⟩
  | 69 => ⟨S260100, .i32⟩
  | 70 => ⟨S260100, .i32⟩
  | 71 => ⟨S260100, .i32⟩
  | 72 => ⟨S_, .i32⟩
  | 73 => ⟨S_, .i32⟩
  | 74 => ⟨S260100, .i32⟩
  | 75 => ⟨S260100, .i32⟩
  | 76 => ⟨S260100, .i32⟩
  | 77 => ⟨S_, .i32⟩
  | 78 => ⟨S260100, .i32⟩
  | 79 => ⟨S260100, .i1⟩
  | 80 => ⟨S260100, .i32⟩
  | 81 => ⟨S260100, .i32⟩
  | 82 => ⟨S_, .i32⟩
  | 83 => ⟨S260100, .i32⟩
  | 84 => ⟨S260100, .i1⟩
  | 85 => ⟨S260100, .i1⟩
  | 86 => ⟨S_, .i32⟩
  | 87 => ⟨S260100, .i32⟩
  | 88 => ⟨S260100, .i32⟩
  | 89 => ⟨S260100, .i32⟩
  | 90 => ⟨S_, .i32⟩
  | 91 => ⟨S_, .i1⟩
  | 92 => ⟨S_, .i32⟩
  | 93 => ⟨S_, .i32⟩
  | 94 => ⟨S260100, .i32⟩
  | 95 => ⟨S260100, .i32⟩
  | 96 => ⟨S_, .i32⟩
  | 97 => ⟨S260100, .i32⟩
  | 98 => ⟨S260100, .i1⟩
  | 99 => ⟨S_, .i32⟩
  | 100 => ⟨S260100, .i32⟩
  | 101 => ⟨S260100, .i1⟩
  | 102 => ⟨S_, .i32⟩
  | 103 => ⟨S_, .i1⟩
  | 104 => ⟨S260100, .i1⟩
  | 105 => ⟨S260100, .i1⟩
  | 106 => ⟨S260100, .i1⟩
  | 107 => ⟨S260100, .i32⟩
  | 108 => ⟨S260100, .i32⟩
  | 109 => ⟨S260100, .i32⟩
  | 110 => ⟨S_, .i32⟩
  | 111 => ⟨S260100, .i32⟩
  | 112 => ⟨S260100, .i1⟩
  | 113 => ⟨S_, .i32⟩
  | 114 => ⟨S260100, .i32⟩
  | 115 => ⟨S260100, .i1⟩
  | 116 => ⟨S_, .i32⟩
  | 117 => ⟨S_, .i32⟩
  | 118 => ⟨S260100, .i32⟩
  | 119 => ⟨S260100, .i32⟩
  | 120 => ⟨S_, .i32⟩
  | 121 => ⟨S_, .i32⟩
  | 122 => ⟨S260100, .i32⟩
  | 123 => ⟨S260100, .i32⟩
  | 124 => ⟨S_, .i32⟩
  | 125 => ⟨S_, .i32⟩
  | 126 => ⟨S260100, .i32⟩
  | 127 => ⟨S260100, .i32⟩
  | _ => ⟨S1x512x512x1, .f32⟩

abbrev hbmTy0_1 (i : Nat) : BufTy := match i % 128 with
  | 0 => ⟨S_, .i32⟩
  | 1 => ⟨S_, .i32⟩
  | 2 => ⟨S260100, .i32⟩
  | 3 => ⟨S260100, .i32⟩
  | 4 => ⟨S260100x1, .i32⟩
  | 5 => ⟨S260100x1, .i32⟩
  | 6 => ⟨S260100x2, .i32⟩
  | 7 => ⟨S_, .i32⟩
  | 8 => ⟨S260100, .i32⟩
  | 9 => ⟨S260100, .i1⟩
  | 10 => ⟨S_, .i32⟩
  | 11 => ⟨S260100, .i32⟩
  | 12 => ⟨S260100, .i32⟩
  | 13 => ⟨S260100, .i32⟩
  | 14 => ⟨S_, .i32⟩
  | 15 => ⟨S260100, .i32⟩
  | 16 => ⟨S260100, .i1⟩
  | 17 => ⟨S_, .i32⟩
  | 18 => ⟨S260100, .i32⟩
  | 19 => ⟨S260100, .i32⟩
  | 20 => ⟨S260100, .i32⟩
  | 21 => ⟨S260100x1, .i32⟩
  | 22 => ⟨S260100x1, .i32⟩
  | 23 => ⟨S260100x2, .i32⟩
  | 24 => ⟨S512x512, .f32⟩
  | _ => ⟨S1x512x512x1, .f32⟩

abbrev hbmTy (i : Nat) : BufTy := match i / 128 with
  | 0 => hbmTy0_0 i
  | 1 => hbmTy0_1 i
  | _ => ⟨S1x512x512x1, .f32⟩

abbrev bufTy : (tb : Table) → Fin (tcTables nBuf tb) → BufTy
  | .hbm, ⟨i, _⟩ => hbmTy i
  | _, _ => ⟨S1x512x512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_values : Ref sig .tc := ⟨.hbm, 22, rfl⟩
abbrev main_indices : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c_0 : Ref sig .tc := ⟨.hbm, 34, rfl⟩
abbrev main_call0_v0 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_c : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_c_0 : Ref sig .tc := ⟨.hbm, 48, rfl⟩
abbrev main_call0_call0_v11 : Ref sig .tc := ⟨.hbm, 49, rfl⟩
abbrev main_call0_call0_v12 : Ref sig .tc := ⟨.hbm, 50, rfl⟩
abbrev main_v30_0 : Ref sig .tc := ⟨.hbm, 51, rfl⟩
abbrev main_call0_call1_c : Ref sig .tc := ⟨.hbm, 52, rfl⟩
abbrev main_call0_call1_v0 : Ref sig .tc := ⟨.hbm, 53, rfl⟩
abbrev main_call0_call1_c_0 : Ref sig .tc := ⟨.hbm, 54, rfl⟩
abbrev main_call0_call1_v1 : Ref sig .tc := ⟨.hbm, 55, rfl⟩
abbrev main_call0_call1_v2 : Ref sig .tc := ⟨.hbm, 56, rfl⟩
abbrev main_call0_call1_v3 : Ref sig .tc := ⟨.hbm, 57, rfl⟩
abbrev main_call0_call1_c_1 : Ref sig .tc := ⟨.hbm, 58, rfl⟩
abbrev main_call0_call1_v4 : Ref sig .tc := ⟨.hbm, 59, rfl⟩
abbrev main_call0_call1_v5 : Ref sig .tc := ⟨.hbm, 60, rfl⟩
abbrev main_call0_call1_c_2 : Ref sig .tc := ⟨.hbm, 61, rfl⟩
abbrev main_call0_call1_v6 : Ref sig .tc := ⟨.hbm, 62, rfl⟩
abbrev main_call0_call1_v7 : Ref sig .tc := ⟨.hbm, 63, rfl⟩
abbrev main_call0_call1_c_3 : Ref sig .tc := ⟨.hbm, 64, rfl⟩
abbrev main_call0_call1_v8 : Ref sig .tc := ⟨.hbm, 65, rfl⟩
abbrev main_call0_call1_v9 : Ref sig .tc := ⟨.hbm, 66, rfl⟩
abbrev main_call0_call1_v10 : Ref sig .tc := ⟨.hbm, 67, rfl⟩
abbrev main_call0_call1_v11 : Ref sig .tc := ⟨.hbm, 68, rfl⟩
abbrev main_call0_call1_v12 : Ref sig .tc := ⟨.hbm, 69, rfl⟩
abbrev main_call0_call1_v13 : Ref sig .tc := ⟨.hbm, 70, rfl⟩
abbrev main_v30_1 : Ref sig .tc := ⟨.hbm, 71, rfl⟩
abbrev main_c_1 : Ref sig .tc := ⟨.hbm, 72, rfl⟩
abbrev main_call1_v0 : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_c : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_c_0 : Ref sig .tc := ⟨.hbm, 86, rfl⟩
abbrev main_call1_call0_v11 : Ref sig .tc := ⟨.hbm, 87, rfl⟩
abbrev main_call1_call0_v12 : Ref sig .tc := ⟨.hbm, 88, rfl⟩
abbrev main_v31_0 : Ref sig .tc := ⟨.hbm, 89, rfl⟩
abbrev main_call1_call1_c : Ref sig .tc := ⟨.hbm, 90, rfl⟩
abbrev main_call1_call1_v0 : Ref sig .tc := ⟨.hbm, 91, rfl⟩
abbrev main_call1_call1_c_0 : Ref sig .tc := ⟨.hbm, 92, rfl⟩
abbrev main_call1_call1_v1 : Ref sig .tc := ⟨.hbm, 93, rfl⟩
abbrev main_call1_call1_v2 : Ref sig .tc := ⟨.hbm, 94, rfl⟩
abbrev main_call1_call1_v3 : Ref sig .tc := ⟨.hbm, 95, rfl⟩
abbrev main_call1_call1_c_1 : Ref sig .tc := ⟨.hbm, 96, rfl⟩
abbrev main_call1_call1_v4 : Ref sig .tc := ⟨.hbm, 97, rfl⟩
abbrev main_call1_call1_v5 : Ref sig .tc := ⟨.hbm, 98, rfl⟩
abbrev main_call1_call1_c_2 : Ref sig .tc := ⟨.hbm, 99, rfl⟩
abbrev main_call1_call1_v6 : Ref sig .tc := ⟨.hbm, 100, rfl⟩
abbrev main_call1_call1_v7 : Ref sig .tc := ⟨.hbm, 101, rfl⟩
abbrev main_call1_call1_c_3 : Ref sig .tc := ⟨.hbm, 102, rfl⟩
abbrev main_call1_call1_v8 : Ref sig .tc := ⟨.hbm, 103, rfl⟩
abbrev main_call1_call1_v9 : Ref sig .tc := ⟨.hbm, 104, rfl⟩
abbrev main_call1_call1_v10 : Ref sig .tc := ⟨.hbm, 105, rfl⟩
abbrev main_call1_call1_v11 : Ref sig .tc := ⟨.hbm, 106, rfl⟩
abbrev main_call1_call1_v12 : Ref sig .tc := ⟨.hbm, 107, rfl⟩
abbrev main_call1_call1_v13 : Ref sig .tc := ⟨.hbm, 108, rfl⟩
abbrev main_v31_1 : Ref sig .tc := ⟨.hbm, 109, rfl⟩
abbrev main_c_2 : Ref sig .tc := ⟨.hbm, 110, rfl⟩
abbrev main_v32 : Ref sig .tc := ⟨.hbm, 111, rfl⟩
abbrev main_v33 : Ref sig .tc := ⟨.hbm, 112, rfl⟩
abbrev main_c_3 : Ref sig .tc := ⟨.hbm, 113, rfl⟩
abbrev main_v34 : Ref sig .tc := ⟨.hbm, 114, rfl⟩
abbrev main_v35 : Ref sig .tc := ⟨.hbm, 115, rfl⟩
abbrev main_c_4 : Ref sig .tc := ⟨.hbm, 116, rfl⟩
abbrev main_call2_v0 : Ref sig .tc := ⟨.hbm, 117, rfl⟩
abbrev main_call2_v1 : Ref sig .tc := ⟨.hbm, 118, rfl⟩
abbrev main_v36 : Ref sig .tc := ⟨.hbm, 119, rfl⟩
abbrev main_c_5 : Ref sig .tc := ⟨.hbm, 120, rfl⟩
abbrev main_call3_v0 : Ref sig .tc := ⟨.hbm, 121, rfl⟩
abbrev main_call3_v1 : Ref sig .tc := ⟨.hbm, 122, rfl⟩
abbrev main_v37 : Ref sig .tc := ⟨.hbm, 123, rfl⟩
abbrev main_c_6 : Ref sig .tc := ⟨.hbm, 124, rfl⟩
abbrev main_call4_v0 : Ref sig .tc := ⟨.hbm, 125, rfl⟩
abbrev main_call4_v1 : Ref sig .tc := ⟨.hbm, 126, rfl⟩
abbrev main_v38 : Ref sig .tc := ⟨.hbm, 127, rfl⟩
abbrev main_c_7 : Ref sig .tc := ⟨.hbm, 128, rfl⟩
abbrev main_call5_v0 : Ref sig .tc := ⟨.hbm, 129, rfl⟩
abbrev main_call5_v1 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_c_8 : Ref sig .tc := ⟨.hbm, 135, rfl⟩
abbrev main_v43 : Ref sig .tc := ⟨.hbm, 136, rfl⟩
abbrev main_v44 : Ref sig .tc := ⟨.hbm, 137, rfl⟩
abbrev main_c_9 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_c_10 : Ref sig .tc := ⟨.hbm, 142, rfl⟩
abbrev main_v48 : Ref sig .tc := ⟨.hbm, 143, rfl⟩
abbrev main_v49 : Ref sig .tc := ⟨.hbm, 144, rfl⟩
abbrev main_c_11 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩

abbrev nD : Nat := 1
abbrev τ : Topo := Topo.v7x

variable {F : FTy → Type} [FloatOps F]
-- ==== Proof.LaunchKernelIdeal.lean ====
/- The run of `KernelIdeal`: its one call on the TensorCore followed by the transpose on the host. The call has no input, one
   output array and one grid point, whose block is the whole array. Here: what the body leaves in its buffer, the launch,
   and that the run ends with the argument unchanged and every semaphore counter at zero. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Tactic

@[expose] public section

-- rectangles of 260100 columns: membership is looked at one coordinate of the long axis at a time
set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

/-- The type of the machine's logical state. -/
local notation "𝕄" => MT nD τ sig Unit (Elt F) ℕ (UR sig nD τ) ℕ

variable (m : (ℓ : Loc nD τ sig) → Buf (Elt F) ℓ) (ρ : Dev nD → PrngReg)

/-! ## The host's lines around the call -/

/-- What device `c`'s buffers hold when the call begins: no host line comes before it, so what they held at the start. -/
abbrev entry (c : Dev nD) : Valuation τ sig (Elt F) := StableHlo.after (List.flatten []) fun b => m (c, b)

/-- The same, of one buffer. -/
abbrev entryAt (c : Dev nD) (b : Ref sig .tc) : Buf (Elt F) ((c : Thread nD τ).loc b) := entry m c (Proc.devRef .tc b)

/-- The whole program is the call continued by the transpose. -/
theorem main_split (𝒱₀ : Variants) :
    Pipeline.HMainK (Ix := Unit) (Name := ℕ) (U := UR sig nD τ) (Lvl := ℕ) cfgs 0 defs₀ 𝒱₀ m (main (F := F)) (entryAt m)
      (fun _ => Pipeline.chain ([hostOps1].map StableHlo.seq)) :=
  Pipeline.hmain_around cfgs 0 defs₀ 𝒱₀ m main [] [hostOps1] (by simp only [List.Forall]) (by simp only [List.Forall]) main_chain

/-- The transpose touches only buffers that the call's array and the buffers outside the call make up. -/
theorem tail_within : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped]
  obtain rfl := List.mem_singleton.1 hops
  exact Pipeline.sub_ucRefs op (List.forall_iff_forall_mem.1 hostOps1_sub op hop)

/-- The transpose allocates nothing. -/
theorem tail_fresh : ∀ ops ∈ ([hostOps1] : List (List (HloOp τ sig (Elt F)))), ∀ op ∈ ops, op.fresh = ∅ := by
  intro ops hops op hop
  obtain rfl := List.mem_singleton.1 hops
  obtain rfl := List.mem_singleton.1 hop
  rfl

/-- The transpose does not write the call's array. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.1 hops
  obtain rfl := List.mem_singleton.1 hop
  fin_cases w
  rw [StableHlo.unary_writes, Finset.mem_singleton]
  exact StableHlo.devRef_ne_of_ne (by decide)

/-! ## The body -/

/-- The whole buffer, as the rectangle that the body's one store names. -/
abbrev whole : Rect S2x260100 := Rect.unit (s := S2x260100) ![0, 0] S2x260100.size inb_S2x260100_S2x260100_0_0

/-- What the body leaves in the output's buffer: its one store, of the block, over the whole buffer. -/
def stored : Vec F S2x260100 .i32 := View.canon [⟨whole, k0_pay1⟩]

/-- The store reaches every index of the buffer. -/
theorem stored_covers (x : Vec F S2x260100 .i32) (y : S2x260100.Idx) :
    ∃ pc ∈ ([⟨whole, x⟩] : List (View.Piece (Elt F) S2x260100 .i32)), y ∈ pc.1.set :=
  View.cover_of_tiled [⟨whole, x⟩] S2x260100.size (by rfl) y

set_option maxHeartbeats 1000000 in
/-- The body, run on an output buffer with any contents, ends with the buffer at `stored`. -/
theorem body_run (c : Dev nD) (E : Set ℕ) (o : Memref sig .tc .vmem S2x260100 .i32) (ho : o.IsWhole) (K : PUnit → sProp 𝕄) :
    iprop((∃ d, owns (c : Thread nD τ) o fullShare d) ∗ (iprop(owns (c : Thread nD τ) o fullShare stored) -∗ K ⟨⟩))
      ⊢ wp frame (wpE (defs₀ (F := F)) Variants.none c none) E (cc0__coord_kernel o ho) K := by
  rw [cc0__coord_kernel_eq_skeleton]
  unfold cc0__coord_kernel_skel owns
  iintro ⟨⟨%d, %f, -, H⟩, Hk⟩
  sl_exec
  sl_step
  iapply Hk
  iexists _; isplitr
  swap; · iexact H
  ipureintro
  exact View.read_writes_eq_canon _ _ _ (stored_covers _)

/-! ## The launch -/

/-- The proof data of the call on device `c`: its array as it stands when the call begins, its buffer at `stored` after
    the body, nothing else changed and nothing owed. -/
def dats (_ : Fin 1) (c : Dev nD) : Dat τ (Elt F) Unit ℕ (UR sig nD τ) ℕ cfg0 c where
  A w := entryAt m c (Pipeline.arrRef spec0 w)
  after w _ := match w with
    | ⟨0, _⟩ => stored
  Φ _ := Pipeline.ΦA spec0 c
  q _ := fullShare
  owed _ := 0

/-- The proof data starts from what the arrays hold when the call begins. -/
theorem dats_entry (c : Dev nD) (w : Fin cfg0.W) : (dats m 0 c).A w = entryAt m c (Pipeline.arrRef spec0 w) := by
  dsimp only [dats]

/-- The proof data's buffer after the body is `stored`. -/
theorem dats_after (c : Dev nD) (t : Fin cfg0.N) : (dats m 0 c).after 0 t = stored := by dsimp only [dats]

/-- What the body is given at grid point `t`. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- What the body gives back at grid point `t`. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- At a grid point the body turns what it is given into what it gives back. -/
theorem body_at (c : Dev nD) (t : Fin cfg0.N) :
    given m c t ⊢ wp frame (wpE (defs₀ (F := F)) Variants.none c none) Set.univ (bodyAt0 t) (fun _ => returned m c t) := by
  unfold given returned bodyAt0
  rw [show (dats m 0 c).Φ t.succ = (dats m 0 c).Φ t.castSucc from rfl,
    show (dats m 0 c).owesAt () t.succ = (dats m 0 c).owesAt () t.castSucc from rfl, dats_after]
  iintro ⟨HΦ, Ho, ⟨%d, H⟩⟩
  iapply (body_run c Set.univ _ _ _)
  isplitl [H]; · iexists _; iexact H
  iintro ⟨H⟩
  isplitl [HΦ]; · iexact HΦ
  isplitl [Ho]; · iexact Ho
  iexact H

/-- The procedure that the launch calls at a grid point is the body there. -/
theorem body_row (t : Fin cfg0.N) : defs₀ (F := F) .tc cfg0.body (cfg0.bodyArgs t (cfg0.slots t)) = bodyAt0 t := by
  unfold defs₀; rw [Defs.onTc_tc]

/-- What the launch asks of the body holds at every grid point. -/
theorem body_ok (c : Dev nD) : BodyObligation (dats (F := F) m 0 c) (defs₀ (F := F)) Variants.none () Set.univ := fun t => by
  rw [bigSep_W0, bigSep_W0, body_row]
  exact triple_restated (body_at m c t) rfl .rfl fun _ => .rfl

/-- What every buffer outside the call holds at the end: the transpose applied after the call. -/
abbrev finish (c : Dev nD) (b : Ref sig .tc) : Buf (Elt F) ((c : Thread nD τ).loc b) :=
  Pipeline.afterTail₀ cfgs (dats m) 0 (entry m) [hostOps1] c b

-- the launch theorem's implicit arguments are found by comparing its conclusion with this statement
set_option backward.isDefEq.respectTransparency.types false in
set_option maxHeartbeats 800000 in
/-- Every run of the program ends; at its end the call's array holds what its write-backs leave, every other buffer what
    the transpose leaves, and every semaphore counter is zero. -/
theorem run_all : θ_run defs (onTc (τ := τ) (main (F := F))) (s₀ m ρ)
    (fun r => Pipeline.FramePost cfgs (dats m) 0 (finish m) r ∧ r.2.sem = fun _ => 0) :=
  Pipeline.θ_run_frame_around (Q' := _) cfgs (dats m) (0 : Fin 1) launch0 defs₀ Variants.none m ρ main
    (hbody := fun c => (body_ok m c).loose) (hshare := fun c => (dats m 0 c).share_full fun _ => rfl)
    (howed := fun _ _ => rfl) (V₀ := entry m) (opss := [hostOps1]) (hsub := tail_within) (hfresh := tail_fresh)
    (hkeep := tail_keeps) (hmain := main_split m Variants.none) (hA := dats_entry m) (hΦ := fun _ _ => rfl)

/-- The argument ends as it began: it is not the call's array and the transpose does not write it. -/
theorem finish_arg0 (c : Dev nD) : finish m c main_arg0 = m ((c : Thread nD τ).loc main_arg0) := by
  unfold finish Pipeline.afterTail₀
  rw [StableHlo.after_of_forall_not_mem (b := Proc.devRef .tc main_arg0) _ _ (fun op hop => by
      obtain rfl := List.mem_singleton.1 hop
      rw [StableHlo.unary_writes, Finset.mem_singleton]
      exact StableHlo.devRef_ne_of_ne (by decide)),
    Pipeline.withArrays_of_ne _ c (entry m c) _ main_arg0 (by exact (by decide : ∀ w, Pipeline.arrRef spec0 w ≠ main_arg0))]
  rfl

/-- At the end the result buffer holds what the transpose leaves in it, and the argument what it held at the start. -/
theorem run_results : θ_run defs (onTc (τ := τ) (main (F := F))) ⟨m, fun _ => 0, ρ⟩ fun r => ∀ c : Dev nD,
      r.2.mem ((c.tc : Thread nD τ).loc main_v1) = finish m c main_v1
      ∧ r.2.mem ((c.tc : Thread nD τ).loc main_arg0) = m ((c.tc : Thread nD τ).loc main_arg0) :=
  (θ_run defs _ _).mono (fun _ h c =>
      ⟨(h.1 c).2 main_v1 (Pipeline.mem_restRefs_of main_v1 (by decide) (by decide)),
        ((h.1 c).2 main_arg0 (Pipeline.mem_restRefs_of main_arg0 (by decide) (by decide))).trans (finish_arg0 m c)⟩)
    (run_all m ρ)

/-- The frame: every run ends, with the argument unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => (h c).2) (run_results m ρ))
    ((θ_run defs _ _).mono (fun _ h => h.2) (run_all m ρ))

end Cert.KernelIdeal.Launch

end
-- ==== Proof.Coord.lean ====
/- The table of coordinates that both programs compute, as a function of the row and the column alone. -/
module

public import Idealize.ShloMosaic.Lib.ValueIdxCore
public import Idealize.ShloMosaic.Lib.Routing.Words

@[expose] public section

noncomputable section

namespace Cert.Coord

open Idealize.ShloMosaic

/-- The table's shape: one row per interior pixel of a 512 × 512 image (510 · 510 of them), two coordinates in a row. -/
abbrev Table : Shape := ⟨2, ![260100, 2]⟩

/-- The coordinates of interior pixel `p` as naturals: `p / 510 + 1` in column 0 and `p % 510 + 2` in column 1. -/
def coordNat (p j : Nat) : Nat := if j = 0 then p / 510 + 1 else p % 510 + 2

/-- The table: at row `p` and column `j` the 32-bit word of `coordNat p j`. -/
def table : IVec Table 32 := fun i => BitVec.ofNat 32 (coordNat (i 0).val (i 1).val)

/-- The position of interior pixel `p` in the flattened 512 × 512 image, counted from 1. -/
def position (p : Nat) : Nat := (p / 510 + 1) * 512 + (p % 510 + 1) + 1

/-- The position of an interior pixel divided by the image's width is the pixel's first coordinate. -/
theorem position_div (p : Nat) : position p / 512 = p / 510 + 1 := by
  have h : p % 510 < 510 := Nat.mod_lt _ (by decide)
  unfold position
  omega

/-- The position of an interior pixel modulo the image's width is the pixel's second coordinate. -/
theorem position_mod (p : Nat) : position p % 512 = p % 510 + 2 := by
  have h : p % 510 < 510 := Nat.mod_lt _ (by decide)
  unfold position
  omega

/-- The position of an interior pixel is at most the image's size. -/
theorem position_lt {p : Nat} (hp : p < 260100) : position p < 2 ^ 31 := by
  have h : p % 510 < 510 := Nat.mod_lt _ (by decide)
  unfold position
  omega

/-- On any arithmetic unit, the unsigned division of the words of two naturals `a` and `b`, `b` not 0, is the word of `a / b`. -/
theorem divui_word (u : ArithUnit) {a b : Nat} (ha : a < 2 ^ 32) (h0 : 0 < b) (hb : b < 2 ^ 32) :
    IntOp.divui u (BitVec.ofNat 32 a) (BitVec.ofNat 32 b) = BitVec.ofNat 32 (a / b) := by
  have hne : BitVec.ofNat 32 b ≠ 0 := fun h => by
    have hz : b = 0 := (WordCmp.ofNat_eq_ofNat_iff (w := 32) hb (by decide)).1 h
    omega
  unfold IntOp.divui
  rw [if_neg hne]
  apply BitVec.eq_of_toNat_eq
  have hq : a / b < 2 ^ 32 := lt_of_le_of_lt (Nat.div_le_self a b) ha
  rw [BitVec.toNat_udiv, WordCmp.toNat_ofNat_of_lt ha, WordCmp.toNat_ofNat_of_lt hb, WordCmp.toNat_ofNat_of_lt hq]

end Cert.Coord

end
-- ==== Proof.Payload.lean ====
/- What the kernel's one block computes, read at an index. -/
module

public import proofs.«01_k».proof.Proof.Coord
public import proofs.«01_k».proof.Proof.Gen.KernelIdeal.Skeleton
public import Idealize.ShloMosaic.Lib.Pipeline.Value

@[expose] public section

noncomputable section

namespace Cert.KernelIdeal.Hand

open Idealize.ShloMosaic Idealize.ShloMosaic.ValueIdx Cert.KernelIdeal Cert.KernelIdeal.Gen Cert.Coord

/-- Python's remainder by 510 as the kernel spells it, on words: the machine's remainder `r`, with 510 added where `r` is
    nonzero and its sign differs from the divisor's. Unsigned words have no sign, so it is the machine's remainder. -/
theorem remainder_word (r : BitVec 32) :
    Scalar.select (IntOp.andi (IntOp.xori (IntOp.cmpi .ult r 0#32) (IntOp.cmpi .ult (510#32) 0#32)) (IntOp.cmpi .ne r 0#32))
      (IntOp.addi r 510#32) r = r := by
  have e : IntOp.cmpi .ult r 0#32 = 0#1 := by
    rw [WordCmp.cmpi_ult_eq, WordCmp.ofBool_decide_eq_zero_iff]
    exact Nat.not_lt_zero _
  have e' : IntOp.cmpi .ult (510#32) 0#32 = 0#1 := by decide
  rw [e, e']
  show Scalar.select (0#1 &&& _) _ _ = _
  rw [BitVec.zero_and]
  rfl

/-- The block at row `j` and column `p` holds coordinate `j` of interior pixel `p`. -/
theorem payload_apply (i : S2x260100.Idx) : k0_pay1 i = BitVec.ofNat 32 (coordNat (i 1).val (i 0).val) := by
  have hp : (i 1).val < 260100 := (i 1).isLt
  have hj : (i 0).val < 2 := (i 0).isLt
  have e1 : iota .tc S2x260100 32 [1] iota_S2x260100_d1_w32 i = BitVec.ofNat 32 (i 1).val := iota_single_apply ..
  have e0 : iota .tc S2x260100 32 [0] iota_S2x260100_d0_w32 i = BitVec.ofNat 32 (i 0).val := iota_single_apply ..
  have hdiv := divui_word .vector (a := (i 1).val) (b := 510) (by omega) (by decide) (by decide)
  have hrem := Routing.remui_word .vector (a := (i 1).val) (b := 510) (by omega) (by decide) (by decide)
  show Scalar.select (IntOp.cmpi .eq (iota .tc S2x260100 32 [0] iota_S2x260100_d0_w32 i) 0#32)
    (IntOp.addi (IntOp.divui .vector (iota .tc S2x260100 32 [1] iota_S2x260100_d1_w32 i) 510#32) 1#32)
    (IntOp.addi (Scalar.select (IntOp.andi (IntOp.xori
        (IntOp.cmpi .ult (IntOp.remui .vector (iota .tc S2x260100 32 [1] iota_S2x260100_d1_w32 i) 510#32) 0#32)
        (IntOp.cmpi .ult 510#32 0#32))
        (IntOp.cmpi .ne (IntOp.remui .vector (iota .tc S2x260100 32 [1] iota_S2x260100_d1_w32 i) 510#32) 0#32))
      (IntOp.addi (IntOp.remui .vector (iota .tc S2x260100 32 [1] iota_S2x260100_d1_w32 i) 510#32) 510#32)
      (IntOp.remui .vector (iota .tc S2x260100 32 [1] iota_S2x260100_d1_w32 i) 510#32)) 2#32) = _
  rw [e0, e1, remainder_word, hdiv, hrem, select_eq0 _ hj]
  unfold coordNat
  split
  · exact BitVec.ofNat_add_ofNat ..
  · exact BitVec.ofNat_add_ofNat ..

end Cert.KernelIdeal.Hand

end
-- ==== Proof.Result.lean ====
/- What the kernel program leaves in its result buffer: the block written back whole, then transposed on the host. -/
module

public import proofs.«01_k».proof.Proof.Payload
public import proofs.«01_k».proof.Proof.LaunchKernelIdeal

@[expose] public section

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.Launch Cert.Coord

variable {F : FTy → Type} [FloatOps F]
variable (m : (ℓ : Loc nD τ sig) → Buf (Elt F) ℓ) (ρ : Dev nD → PrngReg)

/-- The contents that the kernel's output array is shown to end at: the one block, which has the array's shape. -/
abbrev block (c : Dev nD) : Buf (Elt F) ((c : Thread nD τ).loc main_v0) := k0_pay1

/-- The block's store starts at the origin. -/
theorem origin : (![0, 0] : Fin 2 → Nat) = fun _ => 0 := funext fun a => by fin_cases a <;> rfl

/-- At the one grid point the window starts at the array's origin and has the array's extents. -/
theorem window_extent (t : Fin cfg0.N) (a : Fin 2) :
    win0_0.index t a * win0_0.size a = 0 ∧ win0_0.xsize (grid0.coords t) a = S2x260100.size a := by
  rcases fin_N0 t with rfl
  revert a
  decide +kernel

/-- What the one grid point writes back is the block, read through the point's window on the array. -/
theorem written_back (c : Dev nD) (t : Fin cfg0.N) :
    (dats m 0 c).flushed 0 t = (win0_0.blk t).view.read (Elt F) (block c) := by
  show (cfg0.win 0).cut (grid0.coords t) ((dats m 0 c).after 0 t) = _
  rw [dats_after]
  unfold stored
  rw [View.canon_unit_zero origin]
  funext i
  refine congrArg k0_pay1 (funext fun a => Fin.ext ?_)
  show (i a).val = win0_0.index t a * win0_0.size a + 1 * (i a).val
  rw [(window_extent t a).1]
  omega

/-- The one window is the whole array: every index of the array lies in it. -/
theorem in_window (t : Fin cfg0.N) (i : S2x260100.Idx) : i ∈ ((cfg0.win 0).blk t).view.set := by
  show i ∈ ((View.whole main_v0).slice (win0_0.rect t)).set
  rw [View.set_slice_whole, Rect.mem_set_unit]
  intro a
  have hi : (i a).val < S2x260100.size a := (i a).isLt
  have h := window_extent t a
  show win0_0.index t a * win0_0.size a ≤ (i a).val ∧ (i a).val < win0_0.index t a * win0_0.size a + win0_0.xsize (grid0.coords t) a
  omega

/-- After the run the kernel's output array holds the block. -/
theorem array_after (c : Dev nD) : (dats m 0 c).arrAt 0 cfg0.N = block (F := F) c :=
  (dats m 0 c).arrAt_eq_of_cover 0 (block c) (fun t _ => written_back m c t) fun i =>
    ⟨t0_0, flush0_0 _, in_window _ i⟩

/-- The transposed block is the table of coordinates. -/
theorem transposed : transpose S260100x2 [1, 0] k0_pay1 transposes_S2x260100_S260100x2_1_0 = table := by
  funext i
  rw [transpose_apply [1, 0] k0_pay1 transposes_S2x260100_S260100x2_1_0 i
    (ValueIdx.ix2 (i 1) (i 0)) (fun b => by fin_cases b <;> rfl), payload_apply]
  rfl

/-- The host operation after the kernel leaves the table in the result buffer. -/
theorem result_after (c : Dev nD) :
    finish m c main_v1 = table := by
  unfold finish Pipeline.afterTail₀
  simp only [hostOps1, List.flatten_cons, List.flatten_nil, List.append_nil]
  after_results
  refine (congrArg (fun x : IVec S2x260100 32 => transpose S260100x2 [1, 0] x transposes_S2x260100_S260100x2_1_0)
    ((Pipeline.withArrays_arr spec0 launch0.win.arr_inj c _ _ 0).trans (array_after m c))).trans transposed

/-- The kernel program's run: on every device the result buffer ends holding the table, the argument unchanged. -/
theorem run : θ_run defs (onTc (τ := τ) (main (F := F))) ⟨m, fun _ => 0, ρ⟩ fun r => ∀ c : Dev nD,
      r.2.mem ((c.tc : Thread nD τ).loc main_v1) = table
      ∧ r.2.mem ((c.tc : Thread nD τ).loc main_arg0) = m ((c.tc : Thread nD τ).loc main_arg0) :=
  (θ_run defs _ _).mono (fun _ h c => ⟨(h c).1.trans (result_after m c), (h c).2⟩) (run_results m ρ)

end Cert.KernelIdeal.Hand

end
-- ==== Proof.Reference.lean ====
/- What the reference leaves in its result buffer: the two columns read at a pixel, and the columns side by side. -/
module

public import proofs.«01_k».proof.Proof.Coord
public import proofs.«01_k».proof.Proof.Gen.ReferenceIdeal.Run
public import Idealize.ShloMosaic.Lib.Pipeline.Value

@[expose] public section

noncomputable section

namespace Cert.ReferenceIdeal.Hand

open Idealize.ShloMosaic Idealize.ShloMosaic.TcCoe Idealize.SL.Sem
open Idealize.ShloMosaic.ValueIdx
open Cert.ReferenceIdeal Cert.ReferenceIdeal.Gen Cert.ReferenceIdeal.Value Cert.Coord

variable {F : FTy → Type} [FloatOps F]
variable (V : Valuation τ sig (Elt F))

/-- The reference's list of positions: entry `p` is the position of interior pixel `p` in the image, counted from 1. -/
theorem positions_apply (i : S260100.Idx) :
    (res_main_v29 V : IVec S260100 32) i = BitVec.ofNat 32 (position (i 0).val) := by
  have hp : (i 0).val < 260100 := (i 0).isLt
  have hm : (i 0).val % 510 < 510 := Nat.mod_lt _ (by decide)
  unfold res_main_v29
  refine (shapeCast_apply _ shapeCasts_S510x510_S260100 i
    (ix2 (⟨(i 0).val / 510, by omega⟩ : Fin 510) (⟨(i 0).val % 510, hm⟩ : Fin 510)) ?_).trans ?_
  · rw [Shape.rowMajor_val_two, Shape.rowMajor_val_one]
    show (i 0).val / 510 * 510 + (i 0).val % 510 = (i 0).val
    omega
  refine (extractStridedSlice_apply ![1, 1] _ slices_S512x512_S510x510_1_1 _
    (ix2 (⟨(i 0).val / 510 + 1, by omega⟩ : Fin 512) (⟨(i 0).val % 510 + 1, by omega⟩ : Fin 512)) ?_).trans ?_
  · intro a
    fin_cases a
    · exact Nat.add_comm _ _
    · exact Nat.add_comm _ _
  refine (shapeCast_apply _ shapeCasts_S262144_S512x512 _
    (ix1 (⟨((i 0).val / 510 + 1) * 512 + ((i 0).val % 510 + 1), by omega⟩ : Fin 262144)) ?_).trans ?_
  · rw [Shape.rowMajor_val_two, Shape.rowMajor_val_one]
    rfl
  show 1#32 + BitVec.ofNat 32 (((i 0).val / 510 + 1) * 512 + ((i 0).val % 510 + 1)) = _
  rw [BitVec.add_comm]
  exact BitVec.ofNat_add_ofNat ..

/-- The image's width, as the reference's divisions read it. -/
abbrev width : IVec S_ 32 := id (constantI S_ 32 512#32)

/-- The quotient of the positions by the width: the first coordinate. -/
theorem quotient_apply (i : S260100.Idx) :
    (res_main_v30_0 V : IVec S260100 32) i = BitVec.ofNat 32 ((i 0).val / 510 + 1) := by
  have hp : (i 0).val < 260100 := (i 0).isLt
  rw [← position_div]
  exact Routing.pyDiv_ap bcast_S_S260100 (res_main_v29 V) width i (b := 512) (positions_apply V i) rfl
    (position_lt hp) (by decide) (by decide)

/-- The quotient of the first coordinate by the width is 0: the image has no more rows than its width. -/
theorem overflow_apply (i : S260100.Idx) : (res_main_v31_0 V : IVec S260100 32) i = 0#32 := by
  have hp : (i 0).val < 260100 := (i 0).isLt
  have h : (i 0).val / 510 + 1 < 512 := by omega
  refine (Routing.pyDiv_ap bcast_S_S260100 (res_main_v30_0 V) width i (b := 512) (quotient_apply V i) rfl
    (by omega) (by decide) (by decide)).trans ?_
  rw [Nat.div_eq_of_lt h]

/-- No position lies beyond the image. -/
theorem above_apply (i : S260100.Idx) : (res_main_v33 V : IVec S260100 1) i = 0#1 := by
  show IntOp.cmpi .sgt ((res_main_v31_0 V : IVec S260100 32) i) 0#32 = 0#1
  rw [overflow_apply]
  decide

/-- No position lies before the image. -/
theorem below_apply (i : S260100.Idx) : (res_main_v35 V : IVec S260100 1) i = 0#1 := by
  show IntOp.cmpi .slt ((res_main_v31_0 V : IVec S260100 32) i) 4294967295#32 = 0#1
  rw [overflow_apply]
  decide

/-- The first column at pixel `p`: `p / 510 + 1`. -/
theorem first_apply (i : S260100.Idx) :
    (res_main_v37 V : IVec S260100 32) i = BitVec.ofNat 32 ((i 0).val / 510 + 1) := by
  have hp : (i 0).val < 260100 := (i 0).isLt
  have h : (i 0).val / 510 + 1 < 512 := by omega
  show Scalar.select ((res_main_v33 V : IVec S260100 1) i) _ (Scalar.select ((res_main_v35 V : IVec S260100 1) i) _
    (Routing.pyRem bcast_S_S260100 (res_main_v30_0 V) width i)) = _
  rw [above_apply, below_apply, select_zero, select_zero,
    Routing.pyRem_ap bcast_S_S260100 (res_main_v30_0 V) width i (b := 512) (quotient_apply V i) rfl
      (by omega) (by decide) (by decide), Nat.mod_eq_of_lt h]

/-- The second column at pixel `p`: `p % 510 + 2`. -/
theorem second_apply (i : S260100.Idx) :
    (res_main_v39 V : IVec S260100 32) i = BitVec.ofNat 32 ((i 0).val % 510 + 2) := by
  have hp : (i 0).val < 260100 := (i 0).isLt
  show Scalar.select ((res_main_v33 V : IVec S260100 1) i) _ (Scalar.select ((res_main_v35 V : IVec S260100 1) i) _
    (Routing.pyRem bcast_S_S260100 (res_main_v29 V) width i)) = _
  rw [above_apply, below_apply, select_zero, select_zero,
    Routing.pyRem_ap bcast_S_S260100 (res_main_v29 V) width i (b := 512) (positions_apply V i) rfl
      (position_lt hp) (by decide) (by decide), position_mod]

/-- A list of words stood up as a column, read at a row. -/
theorem column_apply (x : IVec S260100 32) (k : S260100x1.Idx) :
    broadcastInDim S260100x1 ![0] bcast_S260100_S260100x1_0 x k = x (ix1 (k 0)) :=
  broadcastInDim_apply ![0] bcast_S260100_S260100x1_0 x k (ix1 (k 0)) fun a => by fin_cases a; rfl

/-- The two columns side by side are the table of coordinates. -/
theorem columns :
    concatenate S260100x2 1 [⟨S260100x1, broadcastInDim S260100x1 ![0] bcast_S260100_S260100x1_0 (res_main_v37 V : IVec S260100 32)⟩,
      ⟨S260100x1, broadcastInDim S260100x1 ![0] bcast_S260100_S260100x1_0 (res_main_v39 V : IVec S260100 32)⟩]
      concatenates_S260100x1_S260100x1_S260100x2_d1 = table := by
  funext i
  have hj : (i 1).val < 2 := (i 1).isLt
  by_cases h : (i 1).val = 0
  · rw [concatenate_pair_apply_left (t := S260100x2) (s₁ := S260100x1) (s₂ := S260100x1) 1 _ _ _ i rfl
      (ix2 (i 0) (0 : Fin 1)) (fun b => by fin_cases b; · rfl
                                           · exact h.symm), column_apply, first_apply]
    show BitVec.ofNat 32 ((i 0).val / 510 + 1) = BitVec.ofNat 32 (coordNat (i 0).val (i 1).val)
    unfold coordNat
    rw [if_pos h]
  · rw [concatenate_pair_apply_right (t := S260100x2) (s₁ := S260100x1) (s₂ := S260100x1) 1 _ _ _ i rfl rfl
      (ix2 (i 0) (0 : Fin 1)) (fun b hb => by fin_cases b; · rfl
                                              · exact absurd rfl hb)
      (by show 0 + 1 = (i 1).val; omega), column_apply, second_apply]
    show BitVec.ofNat 32 ((i 0).val % 510 + 2) = BitVec.ofNat 32 (coordNat (i 0).val (i 1).val)
    unfold coordNat
    rw [if_neg h]

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame: every run ends, with the argument unchanged and every semaphore counter at zero. -/
theorem kernel_frame : Cert.quiescent_Kernel := fun m ρ _ => Cert.Kernel.Launch.frame_run m ρ

/-- The ideal kernel's frame. -/
theorem kernel_ideal_frame : Cert.quiescent_KernelIdeal := fun m ρ _ => Cert.KernelIdeal.Launch.frame_run m ρ

/-- The reference's frame: its run leaves the argument unchanged, and it has no semaphore whose counter could move. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference compute the same function: on every device the result of either is the table of coordinates. -/
theorem same_table : Cert.algebraic_KernelIdeal_ReferenceIdeal := by
  intro m ρ m' ρ' _ _
  refine ⟨fun _ => Cert.Coord.table, Cert.KernelIdeal.Hand.run m ρ, ?_⟩
  exact (θ_run Cert.ReferenceIdeal.defs _ _).mono
    (fun _ h c => ⟨(h c).1.trans (Cert.ReferenceIdeal.Hand.columns _), (h c).2⟩)
    (Cert.ReferenceIdeal.Value.run (F := Ideal) m' ρ')

/-- The five claims together. -/
theorem claim : Cert.Claim :=
  ⟨Cert.Kernel.Gen.facts, Cert.KernelIdeal.Gen.facts, Cert.ReferenceIdeal.Gen.facts,
    kernel_frame, kernel_ideal_frame, reference_frame, trivial, same_table⟩

end Cert.Proof

end
